-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_v4) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S32x2048x3072 : Shape := ⟨3, ![32, 2048, 3072]⟩
abbrev S32x512x1024 : Shape := ⟨3, ![32, 512, 1024]⟩
abbrev S1024x3072 : Shape := ⟨2, ![1024, 3072]⟩
abbrev S1024 : Shape := ⟨1, ![1024]⟩
abbrev S_ : Shape := ⟨0, ![]⟩

class Facts : Prop where
  bcast_S_S32x2048x3072 : S_.BroadcastsInDim S32x2048x3072 (![] : Fin 0 → Fin S32x2048x3072.rank)
  reducesTo_S32x2048x3072_S_d0_1_2 : S32x2048x3072.ReducesTo [0, 1, 2] S_
  h_S_ : 0 < S_.numel
  bcast_S_S1024x3072 : S_.BroadcastsInDim S1024x3072 (![] : Fin 0 → Fin S1024x3072.rank)
  reducesTo_S1024x3072_S_d0_1 : S1024x3072.ReducesTo [0, 1] S_
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S32x2048x3072 .f32) (main_arg1 : FVec F S32x512x1024 .f32) (main_arg2 : FVec F S1024x3072 .f32) (main_arg3 : FVec F S1024 .f32) : IVec S_ 1 :=
  let main_v0 : FVec F S32x2048x3072 .f32 := Host.absf main_arg0
  let main_cst : FVec F S_ .f32 := constant S_ .f32 0x7F800000#32
  let main_v1 : FVec F S32x2048x3072 .f32 := broadcastInDim S32x2048x3072 ![] bcast_S_S32x2048x3072 main_cst
  let main_v2 : IVec S32x2048x3072 1 := cmpf .olt main_v0 main_v1
  let main_c : IVec S_ 1 := constantI S_ 1 1#1
  let main_v3 : IVec S_ 1 := (fun x v => Host.reduce IntOp.andi x v reducesTo_S32x2048x3072_S_d0_1_2 h_S_) main_v2 main_c
  let main_v4 : FVec F S1024x3072 .f32 := Host.absf main_arg2
  let main_cst_0 : FVec F S_ .f32 := constant S_ .f32 0x7F800000#32
  let main_v5 : FVec F S1024x3072 .f32 := broadcastInDim S1024x3072 ![] bcast_S_S1024x3072 main_cst_0
  let main_v6 : IVec S1024x3072 1 := cmpf .olt main_v4 main_v5
  let main_c_1 : IVec S_ 1 := constantI S_ 1 1#1
  let main_v7 : IVec S_ 1 := (fun x v => Host.reduce IntOp.andi x v reducesTo_S1024x3072_S_d0_1 h_S_) main_v6 main_c_1
  let main_v8 : IVec S_ 1 := andi main_v3 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  main_v13
-- ==== Kernel.lean ====
abbrev S32x2048x3072 : Shape := ⟨3, ![32, 2048, 3072]⟩
abbrev S32x512x1024 : Shape := ⟨3, ![32, 512, 1024]⟩
abbrev S1024x3072 : Shape := ⟨2, ![1024, 3072]⟩
abbrev S1024 : Shape := ⟨1, ![1024]⟩
abbrev S1x1024 : Shape := ⟨2, ![1, 1024]⟩
abbrev S64x4x256x1 : Shape := ⟨4, ![64, 4, 256, 1]⟩
abbrev S32x1x1024 : Shape := ⟨3, ![32, 1, 1024]⟩
abbrev S1x1024x3072 : Shape := ⟨3, ![1, 1024, 3072]⟩
abbrev S1x4x256x1 : Shape := ⟨4, ![1, 4, 256, 1]⟩
abbrev S1x1x1024 : Shape := ⟨3, ![1, 1, 1024]⟩
abbrev S1x128 : Shape := ⟨2, ![1, 128]⟩
abbrev S1x256x3072 : Shape := ⟨3, ![1, 256, 3072]⟩
abbrev S256x3072 : Shape := ⟨2, ![256, 3072]⟩
abbrev S256x1024 : Shape := ⟨2, ![256, 1024]⟩
abbrev S256 : Shape := ⟨1, ![256]⟩
abbrev S256x1 : Shape := ⟨2, ![256, 1]⟩
abbrev S1x1x256x1 : Shape := ⟨4, ![1, 1, 256, 1]⟩
abbrev S1 : Shape := ⟨1, ![1]⟩
abbrev S1x1 : Shape := ⟨2, ![1, 1]⟩
abbrev S32x1024 : Shape := ⟨2, ![32, 1024]⟩
abbrev S32x2048 : Shape := ⟨2, ![32, 2048]⟩

abbrev nBuf : Space → Nat
  | .hbm => 9
  | .vmem => 11
  | .smem => 0
  | _ => 0

abbrev bufTy : (tb : Table) → Fin (tcTables nBuf tb) → BufTy
  | .hbm, ⟨0, _⟩ => ⟨S32x2048x3072, .f32⟩
  | .hbm, ⟨1, _⟩ => ⟨S32x512x1024, .f32⟩
  | .hbm, ⟨2, _⟩ => ⟨S1024x3072, .f32⟩
  | .hbm, ⟨3, _⟩ => ⟨S1024, .f32⟩
  | .hbm, ⟨4, _⟩ => ⟨S1x1024, .f32⟩
  | .hbm, ⟨5, _⟩ => ⟨S64x4x256x1, .f32⟩
  | .hbm, ⟨6, _⟩ => ⟨S32x1x1024, .f32⟩
  | .hbm, ⟨7, _⟩ => ⟨S32x1024, .f32⟩
  | .hbm, ⟨8, _⟩ => ⟨S32x2048, .f32⟩
  | .local _ .vmem, ⟨0, _⟩ => ⟨S1x1024x3072, .f32⟩
  | .local _ .vmem, ⟨1, _⟩ => ⟨S1x1024x3072, .f32⟩
  | .local _ .vmem, ⟨2, _⟩ => ⟨S1024x3072, .f32⟩
  | .local _ .vmem, ⟨3, _⟩ => ⟨S1x1024, .f32⟩
  | .local _ .vmem, ⟨4, _⟩ => ⟨S1x4x256x1, .f32⟩
  | .local _ .vmem, ⟨5, _⟩ => ⟨S1x4x256x1, .f32⟩
  | .local _ .vmem, ⟨6, _⟩ => ⟨S1x1x1024, .f32⟩
  | .local _ .vmem, ⟨7, _⟩ => ⟨S1x1x1024, .f32⟩
  | .local _ .vmem, ⟨8, _⟩ => ⟨S1x128, .f32⟩
  | .local _ .vmem, ⟨9, _⟩ => ⟨S1x128, .f32⟩
  | .local _ .vmem, ⟨10, _⟩ => ⟨S1x1024, .f32⟩
  | _, _ => ⟨S32x2048x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![32, 2], ![false, false]⟩

def k0_cond2 (i : grid0.Coords) : BitVec 1 :=
  let arg1 : BitVec 32 := BitVec.ofNat 32 (i 1).val
  let c1_i32 : BitVec 32 := 1#32
  let v223 : BitVec 1 := Scalar.cmpi .eq arg1 c1_i32
  let v224 : BitVec 32 := Scalar.extui v223
  let c0_i32_105 : BitVec 32 := 0#32
  let v225 : BitVec 1 := Scalar.cmpi .ne v224 c0_i32_105
  v225

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x3072 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x4x256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== ReferenceIdeal.lean ====
abbrev S32x2048x3072 : Shape := ⟨3, ![32, 2048, 3072]⟩
abbrev S32x512x1024 : Shape := ⟨3, ![32, 512, 1024]⟩
abbrev S1024x3072 : Shape := ⟨2, ![1024, 3072]⟩
abbrev S1024 : Shape := ⟨1, ![1024]⟩
abbrev S32x2048x1024 : Shape := ⟨3, ![32, 2048, 1024]⟩
abbrev S1x1x1024 : Shape := ⟨3, ![1, 1, 1024]⟩
abbrev S_ : Shape := ⟨0, ![]⟩
abbrev S32x2048 : Shape := ⟨2, ![32, 2048]⟩
abbrev S32 : Shape := ⟨1, ![32]⟩
abbrev S32x1 : Shape := ⟨2, ![32, 1]⟩
abbrev S32x1024 : Shape := ⟨2, ![32, 1024]⟩

abbrev nBuf : Space → Nat
  | .hbm => 27
  | .vmem => 0
  | .smem => 0
  | _ => 0

abbrev bufTy : (tb : Table) → Fin (tcTables nBuf tb) → BufTy
  | .hbm, ⟨0, _⟩ => ⟨S32x2048x3072, .f32⟩
  | .hbm, ⟨1, _⟩ => ⟨S32x512x1024, .f32⟩
  | .hbm, ⟨2, _⟩ => ⟨S1024x3072, .f32⟩
  | .hbm, ⟨3, _⟩ => ⟨S1024, .f32⟩
  | .hbm, ⟨4, _⟩ => ⟨S32x2048x1024, .f32⟩
  | .hbm, ⟨5, _⟩ => ⟨S1x1x1024, .f32⟩
  | .hbm, ⟨6, _⟩ => ⟨S32x2048x1024, .f32⟩
  | .hbm, ⟨7, _⟩ => ⟨S32x2048x1024, .f32⟩
  | .hbm, ⟨8, _⟩ => ⟨S32x2048x1024, .f32⟩
  | .hbm, ⟨9, _⟩ => ⟨S_, .f32⟩
  | .hbm, ⟨10, _⟩ => ⟨S32x2048, .f32⟩
  | .hbm, ⟨11, _⟩ => ⟨S32x2048, .f32⟩
  | .hbm, ⟨12, _⟩ => ⟨S_, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S32x1, .f32⟩
  | .hbm, ⟨18, _⟩ => ⟨S32x2048, .f32⟩
  | .hbm, ⟨19, _⟩ => ⟨S32x2048, .f32⟩
  | .hbm, ⟨20, _⟩ => ⟨S32x2048, .f32⟩
  | .hbm, ⟨21, _⟩ => ⟨S_, .f32⟩
  | .hbm, ⟨22, _⟩ => ⟨S32, .f32⟩
  | .hbm, ⟨23, _⟩ => ⟨S32x1, .f32⟩
  | .hbm, ⟨24, _⟩ => ⟨S32x2048, .f32⟩
  | .hbm, ⟨25, _⟩ => ⟨S32x2048, .f32⟩
  | .hbm, ⟨26, _⟩ => ⟨S32x1024, .f32⟩
  | _, _ => ⟨S32x2048x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_v0 : Ref sig .tc := ⟨.hbm, 8, rfl⟩
abbrev main_call0_cst : Ref sig .tc := ⟨.hbm, 9, rfl⟩
abbrev main_call0_v1 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩

abbrev nD : Nat := 1
abbrev τ : Topo := Topo.v7x

variable {F : FTy → Type} [FloatOps F]
-- ==== Proof.Block.lean ====
/- What the body computes from ONE chunk of 256 rows, and what one update of the three carried
   scratches does: each stored value read at an index. The body's text repeats the chunk and the
   update four times; the repeats are the same functions. -/
module

public import proofs.«01_k».proof.Proof.Gen.KernelIdeal.Skeleton
public import Idealize.ShloMosaic.Lib.Pointwise

@[expose] public section

set_option maxRecDepth 16384

noncomputable section

namespace Cert.KernelIdeal.Value

open Idealize.ShloMosaic Idealize.ShloMosaic.TcCoe Idealize.SL.Sem
open Cert.KernelIdeal Cert.KernelIdeal.Gen

section Chunk

variable (X : FVec Ideal S1x256x3072 .f32) (W : FVec Ideal S1024x3072 .f32) (b : FVec Ideal S1x1024 .f32)

/-- The transformed row: row `r` of the chunk against row `h` of the weights, plus the bias. -/
def rowT (r : Fin 256) (h : Fin 1024) : EReal :=
  (∑ k : Fin 3072, X (ix3 0 r k) * W (ix2 h k)) + b (ix2 0 h)

/-- The norm of a transformed row. -/
def rowN (r : Fin 256) : EReal := Ideal.sqrt (∑ h : Fin 1024, rowT X W b r h * rowT X W b r h)

/-- The chunk's product plus bias, at an index. -/
theorem t_at (r : Fin 256) (h : Fin 1024) : k0_pay5 (F := Ideal) X W b (ix2 r h) = rowT X W b r h := by
  pointwise [k0_pay5, rowT]

/-- The chunk's norms, at an index. -/
theorem n_at (r : Fin 256) : k0_pay6 (F := Ideal) X W b (ix2 r 0) = rowN X W b r := by
  pointwise [k0_pay6, k0_pay5, rowN, rowT]

/-- What the chunk stores as its norms, at an index. -/
theorem norm_at (r : Fin 256) : k0_pay7 (F := Ideal) X W b (ix4 0 0 r 0) = rowN X W b r := by
  pointwise [k0_pay7]
  exact n_at X W b r

/-- The chunk's largest norm. -/
theorem mb_at : k0_pay8 (F := Ideal) X W b (ix2 0 0)
    = Finset.univ.fold max (Ideal.ofBits .f32 0xFF800000#32) (fun r : Fin 256 => rowN X W b r) := by
  pointwise [k0_pay8]
  exact congrArg (fun f => Finset.univ.fold max (Ideal.ofBits .f32 0xFF800000#32) f) (funext fun r => n_at X W b r)

/-- The chunk's sum of exponentials. -/
theorem sb_at : k0_pay10 (F := Ideal) X W b (ix2 0 0)
    = ∑ r : Fin 256, Ideal.exp (rowN X W b r - k0_pay8 (F := Ideal) X W b (ix2 0 0)) := by
  pointwise [k0_pay10, k0_pay9]
  exact Finset.sum_congr rfl fun r _ => congrArg (fun x => Ideal.exp (x - _)) (n_at X W b r)

/-- The chunk's sum of transformed rows, each weighted by its exponential. -/
theorem ws_at (h : Fin 1024) : k0_pay11 (F := Ideal) X W b (ix2 0 h)
    = ∑ r : Fin 256, rowT X W b r h * Ideal.exp (rowN X W b r - k0_pay8 (F := Ideal) X W b (ix2 0 0)) := by
  pointwise [k0_pay11, k0_pay9]
  refine Finset.sum_congr rfl fun r _ => ?_
  exact congrArg₂ (fun y x => y * Ideal.exp (x - _)) (t_at X W b r h) (n_at X W b r)

/-! The other three chunks' texts are the first chunk's functions. -/

theorem norm_chunk1 : k0_pay15 (F := Ideal) (k0_pay12 X) W (constant S256x1024 .f32 0#32) b = k0_pay7 X W b := rfl
theorem norm_chunk2 : k0_pay22 (F := Ideal) (k0_pay21 X W b) = k0_pay7 X W b := rfl
theorem norm_chunk3 : k0_pay29 (F := Ideal) X W b = k0_pay7 X W b := rfl
theorem mb_chunk1 : k0_pay16 (F := Ideal) (k0_pay12 X) W (constant S256x1024 .f32 0#32) b = k0_pay8 X W b := rfl
theorem mb_chunk2 : k0_pay23 (F := Ideal) (k0_pay21 X W b) = k0_pay8 X W b := rfl
theorem mb_chunk3 : k0_pay30 (F := Ideal) X W b = k0_pay8 X W b := rfl
theorem sb_chunk1 : k0_pay18 (F := Ideal) (k0_pay12 X) W (constant S256x1024 .f32 0#32) b = k0_pay10 X W b := rfl
theorem sb_chunk2 : k0_pay25 (F := Ideal) (k0_pay21 X W b) = k0_pay10 X W b := rfl
theorem sb_chunk3 : k0_pay32 (F := Ideal) X W b = k0_pay10 X W b := rfl
theorem ws_chunk1 : k0_pay19 (F := Ideal) (k0_pay12 X) W (constant S256x1024 .f32 0#32) b = k0_pay11 X W b := rfl
theorem ws_chunk2 : k0_pay26 (F := Ideal) (k0_pay20 X W b) (k0_pay21 X W b) = k0_pay11 X W b := rfl
theorem ws_chunk3 : k0_pay33 (F := Ideal) X W b = k0_pay11 X W b := rfl

end Chunk

section Update

variable (mb sb : FVec Ideal S1x1 .f32) (ws : FVec Ideal S1x1024 .f32)
  (m s : FVec Ideal S1x128 .f32) (a : FVec Ideal S1x1024 .f32)

/-- The new running maximum. -/
theorem m_at (l : Fin 128) : k0_pay39 (F := Ideal) mb m (ix2 0 l) = max (m (ix2 0 l)) (mb (ix2 0 0)) := by
  pointwise [k0_pay39, k0_pay34]

/-- The new running sum: the old one and the chunk's, both rescaled to the new maximum. -/
theorem s_at (l : Fin 128) : k0_pay37 (F := Ideal) mb sb m s (ix2 0 l)
    = Ideal.exp (m (ix2 0 l) - max (m (ix2 0 l)) (mb (ix2 0 0))) * s (ix2 0 l)
      + sb (ix2 0 0) * Ideal.exp (mb (ix2 0 0) - max (m (ix2 0 0)) (mb (ix2 0 0))) := by
  pointwise [k0_pay37, k0_pay34, k0_pay35, k0_pay36]

/-- The new running weighted sum: the old one and the chunk's, both rescaled to the new maximum. -/
theorem a_at (h : Fin 1024) : k0_pay38 (F := Ideal) mb ws m a (ix2 0 h)
    = Ideal.exp (m (ix2 0 0) - max (m (ix2 0 0)) (mb (ix2 0 0))) * a (ix2 0 h)
      + ws (ix2 0 h) * Ideal.exp (mb (ix2 0 0) - max (m (ix2 0 0)) (mb (ix2 0 0))) := by
  pointwise [k0_pay38, k0_pay34, k0_pay35, k0_pay36]

/-- The stored quotient, at an index. -/
theorem quot_at (z : FVec Ideal S1x1 .f32) (h : Fin 1024) :
    k0_pay1 (F := Ideal) a z (ix3 0 0 h) = Ideal.div (a (ix2 0 h)) (z (ix2 0 0)) := by
  pointwise [k0_pay1]

/-- The starting maximum: minus infinity. -/
theorem m_init (l : Fin 128) : k0_pay2 (F := Ideal) (ix2 0 l) = Ideal.ofBits .f32 0xFF800000#32 := by
  pointwise [k0_pay2]

/-- The starting sum: zero. -/
theorem s_init (l : Fin 128) : k0_pay3 (F := Ideal) (ix2 0 l) = (0 : EReal) := by
  pointwise [k0_pay3]

/-- The starting weighted sum: zero. -/
theorem a_init (h : Fin 1024) : k0_pay4 (F := Ideal) (ix2 0 h) = (0 : EReal) := by
  pointwise [k0_pay4]

/-! The other three updates' texts are the first update's functions. -/

theorem m_update1 : k0_pay47 (F := Ideal) (k0_pay40 mb m) = k0_pay39 mb m := rfl
theorem m_update2 : k0_pay54 (F := Ideal) (k0_pay48 mb m) = k0_pay39 mb m := rfl
theorem m_update3 : k0_pay60 (F := Ideal) mb m = k0_pay39 mb m := rfl
theorem s_update1 : k0_pay45 (F := Ideal) (k0_pay43 mb m s) (k0_pay44 mb sb m) = k0_pay37 mb sb m s := rfl
theorem s_update2 : k0_pay51 (F := Ideal) mb sb m s = k0_pay37 mb sb m s := rfl
theorem s_update3 : k0_pay58 (F := Ideal) mb sb m s = k0_pay37 mb sb m s := rfl
theorem a_update1 : k0_pay46 (F := Ideal) ws (k0_pay41 mb m) (k0_pay42 mb m) a = k0_pay38 mb ws m a := rfl
theorem a_update2 : k0_pay53 (F := Ideal) (k0_pay52 mb ws m a) = k0_pay38 mb ws m a := rfl
theorem a_update3 : k0_pay59 (F := Ideal) mb ws m a = k0_pay38 mb ws m a := rfl

end Update

end Cert.KernelIdeal.Value

end
-- ==== Proof.Reals.lean ====
/- Extended reals that are real: the facts about the ideal `exp`, `sqrt`, division and maximum at real
   arguments that the rest of the proof uses. Nothing here mentions a program. -/
module

public import Idealize.ShloMosaic.Lib.Pointwise

@[expose] public section

noncomputable section

namespace Cert.Softmax

open Idealize.ShloMosaic

/-- The pattern of minus infinity denotes the least extended real. -/
theorem ofBits_negInf : Ideal.ofBits .f32 0xFF800000#32 = (⊥ : EReal) := by
  simp [Ideal.ofBits, Ideal.ieee]

/-- The pattern of plus infinity denotes the greatest extended real. -/
theorem ofBits_posInf : Ideal.ofBits .f32 0x7F800000#32 = (⊤ : EReal) := by
  simp [Ideal.ofBits, Ideal.ieee]

/-- The ideal exponential of a real is the real exponential. -/
theorem exp_coe (x : ℝ) : Ideal.exp (x : EReal) = (Real.exp x : EReal) := rfl

/-- The ideal square root of a nonnegative real is the real square root. -/
theorem sqrt_coe (x : ℝ) (hx : 0 ≤ x) : Ideal.sqrt (x : EReal) = (Real.sqrt x : EReal) :=
  if_neg (not_lt.mpr hx)

/-- Dividing reals, the divisor not zero, is real division. -/
theorem div_coe_real (x y : ℝ) (hy : y ≠ 0) : Ideal.div (x : EReal) (y : EReal) = ((x / y : ℝ) : EReal) := by
  unfold Ideal.div
  rw [if_neg (by exact_mod_cast hy), ← EReal.coe_inv, ← EReal.coe_mul, div_eq_mul_inv]

/-- A finite sum of reals, taken in the extended reals, is the real sum. -/
theorem sum_coe {ι : Type} [Fintype ι] (f : ι → ℝ) : (∑ i, (f i : EReal)) = ((∑ i, f i : ℝ) : EReal) := by
  classical
  refine Finset.induction_on (motive := fun s : Finset ι => (∑ i ∈ s, (f i : EReal)) = ((∑ i ∈ s, f i : ℝ) : EReal))
    Finset.univ (by simp) fun a s ha ih => ?_
  rw [Finset.sum_insert ha, Finset.sum_insert ha, ih, EReal.coe_add]

/-- The maximum of two reals, taken in the extended reals, is the real maximum. -/
theorem max_coe (x y : ℝ) : max (x : EReal) (y : EReal) = ((max x y : ℝ) : EReal) :=
  (EReal.coe_strictMono.monotone.map_max).symm

/-- The maximum of a nonempty family of reals, started at minus infinity, is a real. -/
theorem fold_max_coe {n : ℕ} [NeZero n] (f : Fin n → ℝ) :
    ∃ M : ℝ, Finset.univ.fold max (⊥ : EReal) (fun k => (f k : EReal)) = (M : EReal) := by
  have hbot : Finset.univ.fold max (⊥ : EReal) (fun k => (f k : EReal)) ≠ ⊥ := by
    refine ne_of_gt ((Finset.lt_fold_max _).2 (Or.inr ⟨0, Finset.mem_univ _, EReal.bot_lt_coe _⟩))
  have htop : Finset.univ.fold max (⊥ : EReal) (fun k => (f k : EReal)) ≠ ⊤ :=
    ne_of_lt ((Finset.fold_max_lt _).2 ⟨bot_lt_top, fun k _ => EReal.coe_lt_top _⟩)
  exact ⟨_, (EReal.coe_toReal htop hbot).symm⟩

/-- An extended real whose absolute value is below plus infinity is a real. -/
theorem eq_coe_of_abs_lt {x : EReal} (h : max x (-x) < ⊤) : x = ((x.toReal : ℝ) : EReal) := by
  refine (EReal.coe_toReal ?_ ?_).symm
  · rintro rfl; simp at h
  · rintro rfl; simp at h

end Cert.Softmax

end
-- ==== Proof.Online.lean ====
/- The running softmax over chunks, in real arithmetic: when every transformed row is real, the three
   scratches hold, up to the common factor `exp (-M)` for the running maximum `M`, the sum of
   `exp (norm)` over the rows seen and the sum of the rows weighted by `exp (norm)`. -/
module

public import proofs.«01_k».proof.Proof.Block
public import proofs.«01_k».proof.Proof.Reals

@[expose] public section

set_option maxRecDepth 16384

noncomputable section

namespace Cert.KernelIdeal.Value

open Idealize.ShloMosaic Idealize.ShloMosaic.TcCoe Idealize.SL.Sem
open Cert.KernelIdeal Cert.KernelIdeal.Gen Cert.Softmax

/-- What the three carried scratches hold: running maximum, running sum, running weighted sum. -/
abbrev State : Type := FVec Ideal S1x128 .f32 × FVec Ideal S1x128 .f32 × FVec Ideal S1x1024 .f32

/-- What the first point of a batch element stores before its chunks. -/
def start : State := (k0_pay2, k0_pay3, k0_pay4)

/-- One chunk's update of the scratches. -/
def step (X : FVec Ideal S1x256x3072 .f32) (W : FVec Ideal S1024x3072 .f32) (b : FVec Ideal S1x1024 .f32)
    (σ : State) : State :=
  (k0_pay39 (k0_pay8 X W b) σ.1,
   k0_pay37 (k0_pay8 X W b) (k0_pay10 X W b) σ.1 σ.2.1,
   k0_pay38 (k0_pay8 X W b) (k0_pay11 X W b) σ.1 σ.2.2)

/-- The norm of a real row. -/
def norm (τ : Fin 1024 → ℝ) : ℝ := Real.sqrt (∑ h, τ h * τ h)

/-- The scratches stand for the sum `Z` of exponentials and the weighted sums `Y`: either over rows
    already seen, at some real running maximum, or over no row at all. -/
def Holds (σ : State) (Z : ℝ) (Y : Fin 1024 → ℝ) : Prop :=
  (∃ M : ℝ, (∀ l : Fin 128, σ.1 (ix2 0 l) = (M : EReal))
      ∧ (∀ l : Fin 128, σ.2.1 (ix2 0 l) = ((Z * Real.exp (-M) : ℝ) : EReal))
      ∧ ∀ h : Fin 1024, σ.2.2 (ix2 0 h) = ((Y h * Real.exp (-M) : ℝ) : EReal))
  ∨ (Z = 0 ∧ (∀ h, Y h = 0) ∧ (∀ l : Fin 128, σ.1 (ix2 0 l) = (⊥ : EReal))
      ∧ (∀ l : Fin 128, σ.2.1 (ix2 0 l) = (0 : EReal)) ∧ ∀ h : Fin 1024, σ.2.2 (ix2 0 h) = (0 : EReal))

/-- Before any chunk the scratches stand for empty sums. -/
theorem start_holds : Holds start 0 fun _ => 0 :=
  Or.inr ⟨rfl, fun _ => rfl, fun l => (m_init l).trans ofBits_negInf, s_init, a_init⟩

section

variable (X : FVec Ideal S1x256x3072 .f32) (W : FVec Ideal S1024x3072 .f32) (b : FVec Ideal S1x1024 .f32)
variable (τ : Fin 256 → Fin 1024 → ℝ) (hτ : ∀ r h, rowT X W b r h = (τ r h : EReal))

include hτ

/-- The norm of a real transformed row is real. -/
theorem rowN_real (r : Fin 256) : rowN X W b r = (norm (τ r) : EReal) := by
  unfold rowN norm
  rw [Finset.sum_congr rfl fun h _ => by rw [hτ r h, ← EReal.coe_mul], sum_coe,
    sqrt_coe _ (Finset.sum_nonneg fun h _ => mul_self_nonneg _)]

/-- The chunk's three numbers when its rows are real: the largest norm is some real `B`, and the two
    sums are real sums, scaled by `exp (-B)`. -/
theorem chunk_real : ∃ B : ℝ, k0_pay8 (F := Ideal) X W b (ix2 0 0) = (B : EReal)
    ∧ k0_pay10 (F := Ideal) X W b (ix2 0 0) = (((∑ r, Real.exp (norm (τ r))) * Real.exp (-B) : ℝ) : EReal)
    ∧ ∀ h : Fin 1024, k0_pay11 (F := Ideal) X W b (ix2 0 h)
        = (((∑ r, τ r h * Real.exp (norm (τ r))) * Real.exp (-B) : ℝ) : EReal) := by
  obtain ⟨B, hB⟩ := fold_max_coe fun r => norm (τ r)
  have hmb : k0_pay8 (F := Ideal) X W b (ix2 0 0) = (B : EReal) := by
    rw [mb_at, ofBits_negInf, ← hB]
    exact congrArg (fun f => Finset.univ.fold max (⊥ : EReal) f) (funext fun r => rowN_real X W b τ hτ r)
  have he (r : Fin 256) : Ideal.exp (rowN X W b r - (B : EReal))
      = ((Real.exp (norm (τ r)) * Real.exp (-B) : ℝ) : EReal) := by
    rw [rowN_real X W b τ hτ r, ← EReal.coe_sub, exp_coe, sub_eq_add_neg, Real.exp_add]
  refine ⟨B, hmb, ?_, fun h => ?_⟩
  · rw [sb_at, hmb, Finset.sum_congr rfl fun r _ => he r, sum_coe, Finset.sum_mul]
  · rw [ws_at, hmb, Finset.sum_congr rfl fun r _ => by rw [he r, hτ r h, ← EReal.coe_mul], sum_coe, Finset.sum_mul]
    exact congrArg _ (Finset.sum_congr rfl fun r _ => (mul_assoc _ _ _).symm)

/-- One chunk's update adds the chunk's sums to what the scratches stand for. -/
theorem step_holds (σ : State) (Z : ℝ) (Y : Fin 1024 → ℝ) (hσ : Holds σ Z Y) :
    Holds (step X W b σ) (Z + ∑ r, Real.exp (norm (τ r)))
      (fun h => Y h + ∑ r, τ r h * Real.exp (norm (τ r))) := by
  obtain ⟨B, hB, hs, hw⟩ := chunk_real X W b τ hτ
  obtain ⟨M, hm, hsum, hacc⟩ | ⟨hZ, hY, hm, hsum, hacc⟩ := hσ
  · have e1 (x : ℝ) : x * Real.exp (-M) * Real.exp (M - max M B) = x * Real.exp (-(max M B)) := by
      rw [mul_assoc, ← Real.exp_add]; congr 2; ring
    have e2 (x : ℝ) : x * Real.exp (-B) * Real.exp (B - max M B) = x * Real.exp (-(max M B)) := by
      rw [mul_assoc, ← Real.exp_add]; congr 2; ring
    refine Or.inl ⟨max M B, fun l => ?_, fun l => ?_, fun h => ?_⟩
    · refine (m_at _ _ l).trans ?_
      rw [hm l, hB, max_coe]
    · refine (s_at _ _ _ _ l).trans ?_
      rw [hm l, hm 0, hB, hs, hsum l, max_coe, ← EReal.coe_sub, ← EReal.coe_sub, exp_coe, exp_coe,
        ← EReal.coe_mul, ← EReal.coe_mul, ← EReal.coe_add, e2, mul_comm (Real.exp _), e1, add_mul]
    · refine (a_at _ _ _ _ h).trans ?_
      rw [hm 0, hB, hw h, hacc h, max_coe, ← EReal.coe_sub, ← EReal.coe_sub, exp_coe, exp_coe,
        ← EReal.coe_mul, ← EReal.coe_mul, ← EReal.coe_add, e2, mul_comm (Real.exp _), e1, add_mul]
  · refine Or.inl ⟨B, fun l => ?_, fun l => ?_, fun h => ?_⟩
    · refine (m_at _ _ l).trans ?_
      rw [hm l, hB, max_eq_right bot_le]
    · refine (s_at _ _ _ _ l).trans ?_
      rw [hm l, hm 0, hB, hs, hsum l, max_eq_right bot_le, mul_zero, zero_add, ← EReal.coe_sub, exp_coe, sub_self,
        Real.exp_zero, EReal.coe_one, mul_one, hZ, zero_add]
    · refine (a_at _ _ _ _ h).trans ?_
      rw [hm 0, hB, hw h, hacc h, max_eq_right bot_le, mul_zero, zero_add, ← EReal.coe_sub, exp_coe, sub_self,
        Real.exp_zero, EReal.coe_one, mul_one]
      dsimp only
      rw [hY h, zero_add]

end

/-- The quotient of the weighted sum by the sum does not see the running maximum. -/
theorem quot_holds (σ : State) (Z : ℝ) (Y : Fin 1024 → ℝ) (hσ : Holds σ Z Y) (hZ : Z ≠ 0) (h : Fin 1024) :
    Ideal.div (σ.2.2 (ix2 0 h)) (σ.2.1 (ix2 0 0)) = ((Y h / Z : ℝ) : EReal) := by
  obtain ⟨M, hm, hsum, hacc⟩ | ⟨hZ0, -⟩ := hσ
  · rw [hsum 0, hacc h, div_coe_real _ _ (mul_ne_zero hZ (Real.exp_ne_zero _)),
      mul_div_mul_right _ _ (Real.exp_ne_zero _)]
  · exact absurd hZ0 hZ

end Cert.KernelIdeal.Value

end
-- ==== Proof.Points.lean ====
/- What the scratches and the two output blocks hold after each grid point, as the chunk functions of
   `Block` and the state step of `Online` applied to the point's input blocks. -/
module

public import proofs.«01_k».proof.Proof.Gen.KernelIdeal.Frame
public import proofs.«01_k».proof.Proof.Online
public import Idealize.ShloMosaic.Lib.Pipeline.ValueKit
public import Idealize.ShloMosaic.Lib.Pipeline.ReadBack

@[expose] public section

set_option maxRecDepth 16384

noncomputable section

namespace Cert.KernelIdeal.Value

open Idealize.ShloMosaic Idealize.ShloMosaic.TcCoe Idealize.SL.Sem
open Cert.KernelIdeal Cert.KernelIdeal.Gen

variable (m : (ℓ : Loc nD τ sig) → Buf (Elt Ideal) ℓ)

/-- Rows `256 q` to `256 q + 255` of a block of 1024 rows. -/
def chunk (x : FVec Ideal S1x1024x3072 .f32) (q : Fin 4) : FVec Ideal S1x256x3072 .f32 := fun y =>
  x (ix3 0 ⟨256 * (q : ℕ) + (y 1 : ℕ), by have h : (y 1 : ℕ) < 256 := (y 1).isLt; omega⟩ (y 2))

/-- The four chunks' updates of one point. -/
def sweep (x : FVec Ideal S1x1024x3072 .f32) (W : FVec Ideal S1024x3072 .f32) (b : FVec Ideal S1x1024 .f32)
    (σ : State) : State :=
  step (chunk x 3) W b (step (chunk x 2) W b (step (chunk x 1) W b (step (chunk x 0) W b σ)))

/-- A load of 256 rows of the block is a chunk. -/
theorem ld_chunk (x : FVec Ideal S1x1024x3072 .f32) (o : ℕ) (q : Fin 4) (ho : o = 256 * (q : ℕ))
    (hb : ∀ a : Fin 3, (![0, o, 0] : Fin 3 → ℕ) a + S1x256x3072.size a ≤ S1x1024x3072.size a) :
    View.ld (Val := Elt Ideal) (S := S1x1024x3072) (e' := .f32) x
      (Rect.unit (s := S1x1024x3072) ![0, o, 0] S1x256x3072.size hb) = chunk x q := by
  subst ho
  funext y
  pointwise [chunk]

/-- After an even point the scratches are the four updates of the starting state. -/
theorem scratch_even (c : Dev nD) (t : Fin cfg0.N) (h0 : t.val % 2 = 0) :
    (outsAt0 m c t.val t.isLt).2.2 = sweep (iblk m c 0 t) (iblk m c 1 t) (iblk m c 2 t) start := by
  have h1 : ¬ t.val % 2 = 1 := by omega
  refine Prod.ext ?_ (Prod.ext ?_ ?_)
  all_goals
    rw [outsAt0_A m c t h0 h1]; frame_out
    rw [ld_chunk _ 0 0 rfl, ld_chunk _ 256 1 rfl, ld_chunk _ 512 2 rfl, ld_chunk _ 768 3 rfl]
    rfl

/-- After an odd point the scratches are the four updates of what the point before left. -/
theorem scratch_odd (c : Dev nD) (t : Fin cfg0.N) (h1 : t.val % 2 = 1) :
    (outsAt0 m c t.val t.isLt).2.2 = sweep (iblk m c 0 t) (iblk m c 1 t) (iblk m c 2 t)
      (outsAt0 m c (t.val - 1) (Nat.lt_of_le_of_lt (Nat.sub_le _ _) t.isLt)).2.2 := by
  have h0 : ¬ t.val % 2 = 0 := by omega
  refine Prod.ext ?_ (Prod.ext ?_ ?_)
  all_goals
    rw [outsAt0_B m c t h0 h1]; frame_out
    rw [ld_chunk _ 0 0 rfl, ld_chunk _ 256 1 rfl, ld_chunk _ 512 2 rfl, ld_chunk _ 768 3 rfl]
    simp only [read_unread_whole]
    rfl

/-- At an odd point the summary block is the quotient of the carried weighted sum by the carried sum. -/
theorem summ_odd (c : Dev nD) (t : Fin cfg0.N) (h1 : t.val % 2 = 1) (h : Fin 1024) :
    (outsAt0 m c t.val t.isLt).2.1 (ix3 0 0 h)
      = Ideal.div ((outsAt0 m c t.val t.isLt).2.2.2.2 (ix2 0 h)) ((outsAt0 m c t.val t.isLt).2.2.2.1 (ix2 0 0)) := by
  have h0 : ¬ t.val % 2 = 0 := by omega
  rw [scratch_odd m c t h1]
  rw [outsAt0_B m c t h0 h1]; frame_out
  rw [ld_chunk _ 0 0 rfl, ld_chunk _ 256 1 rfl, ld_chunk _ 512 2 rfl, ld_chunk _ 768 3 rfl]
  simp only [read_unread_whole]
  rw [View.readCov_fill _ _ _ _ _ (by decide)]
  refine (quot_at _ _ h).trans ?_
  refine congrArg (Ideal.div _) ?_
  pointwise
  rfl

/-- A stored norm at a block index, as the norm of the row the index names. -/
theorem norm_idx (x : FVec Ideal S1x1024x3072 .f32) (W : FVec Ideal S1024x3072 .f32) (b : FVec Ideal S1x1024 .f32)
    (p q : Fin 4) (r : Fin 256) (y : S1x1x256x1.Idx) (hq : (q : ℕ) = (p : ℕ)) (hr : (r : ℕ) = (y 2 : ℕ)) :
    k0_pay7 (F := Ideal) (chunk x p) W b y = rowN (chunk x q) W b r := by
  obtain rfl : q = p := Fin.ext hq
  idx_vars y
  obtain rfl : r = y2 := Fin.ext hr
  obtain rfl : y0 = 0 := Subsingleton.elim _ _
  obtain rfl : y1 = 0 := Subsingleton.elim _ _
  obtain rfl : y3 = 0 := Subsingleton.elim _ _
  exact norm_at _ W b r

/-- The norms' block at a point, at an index: the norm of the row it names. -/
theorem norms_at (c : Dev nD) (t : Fin cfg0.N) (q : Fin 4) (r : Fin 256) :
    (outsAt0 m c t.val t.isLt).1 (ix4 0 q r 0)
      = rowN (chunk (iblk m c 0 t) q) (iblk m c 1 t) (iblk m c 2 t) r := by
  rcases Nat.mod_two_eq_zero_or_one t.val with ht | ht
  · rw [outsAt0_A m c t ht (by omega)]; frame_out
    canon_tiles x h
    · rw [ld_chunk _ 768 3 rfl]
      exact norm_idx _ _ _ 3 q r x (by change (q : ℕ) = 3; change (q : ℕ) = 3 + _ at h1; omega) h2
    · rw [ld_chunk _ 512 2 rfl]
      exact norm_idx _ _ _ 2 q r x (by change (q : ℕ) = 2; change (q : ℕ) = 2 + _ at h1; omega) h2
    · rw [ld_chunk _ 256 1 rfl]
      exact norm_idx _ _ _ 1 q r x (by change (q : ℕ) = 1; change (q : ℕ) = 1 + _ at h1; omega) h2
    · rw [ld_chunk _ 0 0 rfl]
      exact norm_idx _ _ _ 0 q r x (by change (q : ℕ) = 0; change (q : ℕ) = _ at h1; omega) h2
  · rw [outsAt0_B m c t (by omega) ht]; frame_out
    canon_tiles x h
    · rw [ld_chunk _ 768 3 rfl]
      exact norm_idx _ _ _ 3 q r x (by change (q : ℕ) = 3; change (q : ℕ) = 3 + _ at h1; omega) h2
    · rw [ld_chunk _ 512 2 rfl]
      exact norm_idx _ _ _ 2 q r x (by change (q : ℕ) = 2; change (q : ℕ) = 2 + _ at h1; omega) h2
    · rw [ld_chunk _ 256 1 rfl]
      exact norm_idx _ _ _ 1 q r x (by change (q : ℕ) = 1; change (q : ℕ) = 1 + _ at h1; omega) h2
    · rw [ld_chunk _ 0 0 rfl]
      exact norm_idx _ _ _ 0 q r x (by change (q : ℕ) = 0; change (q : ℕ) = _ at h1; omega) h2

end Cert.KernelIdeal.Value

end
-- ==== Proof.Arrays.lean ====
/- The kernel's two result arrays after the run, at an index. -/
module

public import proofs.«01_k».proof.Proof.Points

@[expose] public section

set_option maxRecDepth 16384

noncomputable section

namespace Cert.KernelIdeal.Value

open Idealize.ShloMosaic Idealize.ShloMosaic.TcCoe Idealize.SL.Sem
open Cert.KernelIdeal Cert.KernelIdeal.Gen
open Idealize.ShloMosaic.Pipeline (Dat)

variable (m : (ℓ : Loc nD τ sig) → Buf (Elt Ideal) ℓ)

/-- The transformed row of batch element `i`, row `l`, output feature `h`, over the argument arrays. -/
def T (x : FVec Ideal S32x2048x3072 .f32) (w : FVec Ideal S1024x3072 .f32) (b : FVec Ideal S1024 .f32)
    (i : Fin 32) (l : Fin 2048) (h : Fin 1024) : EReal :=
  (∑ k : Fin 3072, x (ix3 i l k) * w (ix2 h k)) + b (ix1 h)

/-- The norm of a transformed row. -/
def N (x : FVec Ideal S32x2048x3072 .f32) (w : FVec Ideal S1024x3072 .f32) (b : FVec Ideal S1024 .f32)
    (i : Fin 32) (l : Fin 2048) : EReal :=
  Ideal.sqrt (∑ h : Fin 1024, T x w b i l h * T x w b i l h)

/-- Every window's block index at a point. -/
theorem idx : ∀ t : Fin cfg0.N, win0_0.index t = ![t.val / 2, t.val % 2, 0] ∧ win0_1.index t = ![0, 0]
    ∧ win0_2.index t = ![0, 0] ∧ win0_3.index t = ![t.val, 0, 0, 0] ∧ win0_4.index t = ![t.val / 2, 0, 0] :=
  (by decide +kernel : ∀ t : Fin grid0.N, _)

/-- The bias the kernel reads is the argument with a leading unit axis. -/
theorem V_bias (c : Dev nD) : V m c main_v0
    = shapeCast S1x1024 (m ((c : Thread nD τ).loc main_arg3)) shapeCasts_S1024_S1x1024 := by
  entry_read
  try rfl

/-- A chunk's transformed row is a row of the whole. -/
theorem rowT_eq (c : Dev nD) (t : Fin cfg0.N) (q : Fin 4) (r : Fin 256) (h : Fin 1024) (i : Fin 32) (l : Fin 2048)
    (hi : (i : ℕ) = t.val / 2) (hl : (l : ℕ) = t.val % 2 * 1024 + (256 * (q : ℕ) + (r : ℕ))) :
    rowT (chunk (iblk m c 0 t) q) (iblk m c 1 t) (iblk m c 2 t) r h
      = T (m ((c : Thread nD τ).loc main_arg0)) (m ((c : Thread nD τ).loc main_arg2))
          (m ((c : Thread nD τ).loc main_arg3)) i l h := by
  pointwise [rowT, T, chunk]
  blk_point [iblk, V, idx t]
  have he : ((win0_2.blk t).view.emb (ix2 0 h) : S1x1024.Idx) = ix2 0 h := by blk_ext [idx t]
  refine (congrArg (V m c main_v0) he).trans ?_
  rw [V_bias]
  pointwise

/-- A chunk's norm is a norm of the whole. -/
theorem rowN_eq (c : Dev nD) (t : Fin cfg0.N) (q : Fin 4) (r : Fin 256) (i : Fin 32) (l : Fin 2048)
    (hi : (i : ℕ) = t.val / 2) (hl : (l : ℕ) = t.val % 2 * 1024 + (256 * (q : ℕ) + (r : ℕ))) :
    rowN (chunk (iblk m c 0 t) q) (iblk m c 1 t) (iblk m c 2 t) r
      = N (m ((c : Thread nD τ).loc main_arg0)) (m ((c : Thread nD τ).loc main_arg2))
          (m ((c : Thread nD τ).loc main_arg3)) i l := by
  unfold rowN N
  exact congrArg Ideal.sqrt (Finset.sum_congr rfl fun h _ => by rw [rowT_eq m c t q r h i l hi hl])

/-- The norms' array the kernel leaves, at an index. -/
def norms (x : FVec Ideal S32x2048x3072 .f32) (w : FVec Ideal S1024x3072 .f32) (b : FVec Ideal S1024 .f32) :
    FVec Ideal S64x4x256x1 .f32 := fun j =>
  N x w b ⟨(j 0 : ℕ) / 2, by have h : (j 0 : ℕ) < 64 := (j 0).isLt; omega⟩
    ⟨(j 0 : ℕ) % 2 * 1024 + (256 * (j 1 : ℕ) + (j 2 : ℕ)), by
      have h1 : (j 1 : ℕ) < 4 := (j 1).isLt
      have h2 : (j 2 : ℕ) < 256 := (j 2).isLt
      omega⟩

/-- The norms' block of a point, at a block index, is the array's entry there. -/
theorem norms_point (c : Dev nD) (t : Fin cfg0.N) (y : S1x4x256x1.Idx) (j : S64x4x256x1.Idx)
    (h0 : (j 0 : ℕ) = t.val) (h1 : (j 1 : ℕ) = (y 1 : ℕ)) (h2 : (j 2 : ℕ) = (y 2 : ℕ)) :
    (outsAt0 m c t.val t.isLt).1 y
      = norms (m ((c : Thread nD τ).loc main_arg0)) (m ((c : Thread nD τ).loc main_arg2))
          (m ((c : Thread nD τ).loc main_arg3)) j := by
  idx_vars y
  obtain rfl : y0 = 0 := Subsingleton.elim _ _
  obtain rfl : y3 = 0 := Subsingleton.elim _ _
  refine (norms_at m c t y1 y2).trans ?_
  refine rowN_eq m c t y1 y2 _ _ ?_ ?_
  · change (j 0 : ℕ) / 2 = _
    rw [h0]
  · change (j 0 : ℕ) % 2 * 1024 + (256 * (j 1 : ℕ) + (j 2 : ℕ)) = _
    rw [h0, h1, h2]

/-- The array of norms after the run. -/
theorem final_norms (c : Dev nD) : (dats m 0 c).arrAt 3 (cfgs 0).N
    = norms (m ((c : Thread nD τ).loc main_arg0)) (m ((c : Thread nD τ).loc main_arg2))
        (m ((c : Thread nD τ).loc main_arg3)) := by
  refine (dats m 0 c).arrAt_eq_of_covers 3 _ (by decide +kernel) fun t hf y => ?_
  blk_simp
  rw [after0_3]
  refine norms_point m c t y _ ?_ ?_ ?_
  all_goals (blk_simp [idx t] <;> try omega)

end Cert.KernelIdeal.Value

end
-- ==== Proof.Summary.lean ====
/- The kernel's array of summaries after the run, when the arguments are real: for each batch element
   the sum of the transformed rows weighted by `exp (norm)`, over the sum of `exp (norm)`. -/
module

public import proofs.«01_k».proof.Proof.Arrays

@[expose] public section

set_option maxRecDepth 16384

noncomputable section

namespace Cert.KernelIdeal.Value

open Idealize.ShloMosaic Idealize.ShloMosaic.TcCoe Idealize.SL.Sem
open Cert.KernelIdeal Cert.KernelIdeal.Gen Cert.Softmax
open Idealize.ShloMosaic.Pipeline (Dat)

/-- Every entry of the array is a real. -/
def Finite {s : Shape} (x : FVec Ideal s .f32) : Prop := ∀ j, x j = ((EReal.toReal (x j) : ℝ) : EReal)

section Real

variable (x : FVec Ideal S32x2048x3072 .f32) (w : FVec Ideal S1024x3072 .f32) (b : FVec Ideal S1024 .f32)

/-- The transformed row, in real arithmetic. -/
def Tr (i : Fin 32) (l : Fin 2048) (h : Fin 1024) : ℝ :=
  (∑ k : Fin 3072, EReal.toReal (x (ix3 i l k)) * EReal.toReal (w (ix2 h k))) + EReal.toReal (b (ix1 h))

/-- The sum over a batch element's rows of `exp (norm)`. -/
def Zr (i : Fin 32) : ℝ := ∑ l : Fin 2048, Real.exp (norm (Tr x w b i l))

/-- The sum over a batch element's rows of the row times `exp (norm)`. -/
def Yr (i : Fin 32) (h : Fin 1024) : ℝ := ∑ l : Fin 2048, Tr x w b i l h * Real.exp (norm (Tr x w b i l))

/-- The sum of exponentials is positive, so not zero. -/
theorem Zr_ne_zero (i : Fin 32) : Zr x w b i ≠ 0 :=
  ne_of_gt (Finset.sum_pos (fun l _ => Real.exp_pos _) ⟨0, Finset.mem_univ _⟩)

variable (hx : Finite x) (hw : Finite w) (hb : Finite b)
include hx hw hb

/-- With real arguments the transformed row is real. -/
theorem T_real (i : Fin 32) (l : Fin 2048) (h : Fin 1024) : T x w b i l h = (Tr x w b i l h : EReal) := by
  unfold T Tr
  rw [EReal.coe_add, ← sum_coe, ← hb (ix1 h)]
  refine congrArg (· + _) (Finset.sum_congr rfl fun k _ => ?_)
  rw [EReal.coe_mul, ← hx (ix3 i l k), ← hw (ix2 h k)]

/-- With real arguments the norm is real. -/
theorem N_real (i : Fin 32) (l : Fin 2048) : N x w b i l = (norm (Tr x w b i l) : EReal) := by
  unfold N norm
  rw [Finset.sum_congr rfl fun h _ => by rw [T_real x w b hx hw hb i l h, ← EReal.coe_mul], sum_coe,
    sqrt_coe _ (Finset.sum_nonneg fun h _ => mul_self_nonneg _)]

end Real

/-- The row a chunk's row is, at the point numbered `p`. -/
def rowIx (p : ℕ) (q : Fin 4) (r : Fin 256) : Fin 2048 := ⟨p % 2 * 1024 + (256 * (q : ℕ) + (r : ℕ)), by omega⟩

/-- The eight chunks of an even and an odd point are the 2048 rows. -/
theorem sum_rows (f : Fin 2048 → ℝ) (p p' : ℕ) (hp : p % 2 = 0) (hp' : p' % 2 = 1) :
    0 + ∑ r, f (rowIx p 0 r) + ∑ r, f (rowIx p 1 r) + ∑ r, f (rowIx p 2 r) + ∑ r, f (rowIx p 3 r)
      + ∑ r, f (rowIx p' 0 r) + ∑ r, f (rowIx p' 1 r) + ∑ r, f (rowIx p' 2 r) + ∑ r, f (rowIx p' 3 r)
      = ∑ l, f l := by
  rw [Fin.sum_univ_tiles 8 256 rfl f, Fin.sum_univ_eight, zero_add]
  have e (p : ℕ) (q : Fin 4) (k : Fin 8) (hk : (k : ℕ) = p % 2 * 4 + (q : ℕ)) :
      ∑ r, f (rowIx p q r) = ∑ r : Fin 256, f ⟨(k : ℕ) * 256 + (r : ℕ), by omega⟩ :=
    Finset.sum_congr rfl fun r _ => congrArg f (Fin.ext (by
      change p % 2 * 1024 + (256 * (q : ℕ) + (r : ℕ)) = (k : ℕ) * 256 + (r : ℕ); omega))
  rw [e p 0 0 (by rw [hp]; rfl), e p 1 1 (by rw [hp]; rfl), e p 2 2 (by rw [hp]; rfl), e p 3 3 (by rw [hp]; rfl),
    e p' 0 4 (by rw [hp']; rfl), e p' 1 5 (by rw [hp']; rfl), e p' 2 6 (by rw [hp']; rfl),
    e p' 3 7 (by rw [hp']; rfl)]

variable (m : (ℓ : Loc nD τ sig) → Buf (Elt Ideal) ℓ)

/-- The kernel's `trg`. -/
abbrev argX (c : Dev nD) : FVec Ideal S32x2048x3072 .f32 := m ((c : Thread nD τ).loc main_arg0)

/-- The kernel's `fc_w`. -/
abbrev argW (c : Dev nD) : FVec Ideal S1024x3072 .f32 := m ((c : Thread nD τ).loc main_arg2)

/-- The kernel's `fc_b`. -/
abbrev argB (c : Dev nD) : FVec Ideal S1024 .f32 := m ((c : Thread nD τ).loc main_arg3)

section Device

variable (c : Dev nD)

variable (hx : Finite (argX m c)) (hw : Finite (argW m c)) (hb : Finite (argB m c))
include hx hw hb

/-- One point's four updates add the point's 1024 rows to what the scratches stand for. -/
theorem sweep_holds (t : Fin cfg0.N) (i : Fin 32) (hi : (i : ℕ) = t.val / 2) (σ : State) (Z : ℝ)
    (Y : Fin 1024 → ℝ) (hσ : Holds σ Z Y) :
    Holds (sweep (iblk m c 0 t) (iblk m c 1 t) (iblk m c 2 t) σ)
      (Z + ∑ r, Real.exp (norm (Tr (argX m c) (argW m c) (argB m c) i (rowIx t 0 r))) + ∑ r, Real.exp (norm (Tr (argX m c) (argW m c) (argB m c) i (rowIx t 1 r)))
        + ∑ r, Real.exp (norm (Tr (argX m c) (argW m c) (argB m c) i (rowIx t 2 r))) + ∑ r, Real.exp (norm (Tr (argX m c) (argW m c) (argB m c) i (rowIx t 3 r))))
      (fun h => Y h + ∑ r, Tr (argX m c) (argW m c) (argB m c) i (rowIx t 0 r) h * Real.exp (norm (Tr (argX m c) (argW m c) (argB m c) i (rowIx t 0 r)))
        + ∑ r, Tr (argX m c) (argW m c) (argB m c) i (rowIx t 1 r) h * Real.exp (norm (Tr (argX m c) (argW m c) (argB m c) i (rowIx t 1 r)))
        + ∑ r, Tr (argX m c) (argW m c) (argB m c) i (rowIx t 2 r) h * Real.exp (norm (Tr (argX m c) (argW m c) (argB m c) i (rowIx t 2 r)))
        + ∑ r, Tr (argX m c) (argW m c) (argB m c) i (rowIx t 3 r) h * Real.exp (norm (Tr (argX m c) (argW m c) (argB m c) i (rowIx t 3 r)))) := by
  have hτ (q : Fin 4) (r : Fin 256) (h : Fin 1024) :
      rowT (chunk (iblk m c 0 t) q) (iblk m c 1 t) (iblk m c 2 t) r h = (Tr (argX m c) (argW m c) (argB m c) i (rowIx t q r) h : EReal) :=
    (rowT_eq m c t q r h i (rowIx t q r) hi rfl).trans (T_real _ _ _ hx hw hb _ _ _)
  have s0 := step_holds _ _ _ (fun r => Tr (argX m c) (argW m c) (argB m c) i (rowIx t 0 r)) (hτ 0) σ Z Y hσ
  have s1 := step_holds _ _ _ (fun r => Tr (argX m c) (argW m c) (argB m c) i (rowIx t 1 r)) (hτ 1) _ _ _ s0
  have s2 := step_holds _ _ _ (fun r => Tr (argX m c) (argW m c) (argB m c) i (rowIx t 2 r)) (hτ 2) _ _ _ s1
  exact step_holds _ _ _ (fun r => Tr (argX m c) (argW m c) (argB m c) i (rowIx t 3 r)) (hτ 3) _ _ _ s2

/-- After an odd point the scratches stand for the sums over all 2048 rows of the batch element. -/
theorem scratch_total (t : Fin cfg0.N) (ht : t.val % 2 = 1) (i : Fin 32) (hi : (i : ℕ) = t.val / 2) :
    Holds (outsAt0 m c t.val t.isLt).2.2 (Zr (argX m c) (argW m c) (argB m c) i) (Yr (argX m c) (argW m c) (argB m c) i) := by
  have hlt : t.val - 1 < cfg0.N := Nat.lt_of_le_of_lt (Nat.sub_le _ _) t.isLt
  have he := scratch_even m c ⟨t.val - 1, hlt⟩ (by change (t.val - 1) % 2 = 0; omega)
  have h1 := sweep_holds m c hx hw hb ⟨t.val - 1, hlt⟩ i (by change (i : ℕ) = (t.val - 1) / 2; omega) start 0
    (fun _ => 0) start_holds
  rw [← he] at h1
  have h2 := sweep_holds m c hx hw hb t i hi _ _ _ h1
  rw [scratch_odd m c t ht]
  have hp : (t.val - 1) % 2 = 0 := by omega
  have eZ := sum_rows (fun l => Real.exp (norm (Tr (argX m c) (argW m c) (argB m c) i l))) (t.val - 1) t.val hp ht
  have eY : Yr (argX m c) (argW m c) (argB m c) i = _ := funext fun h =>
    (sum_rows (fun l => Tr (argX m c) (argW m c) (argB m c) i l h * Real.exp (norm (Tr (argX m c) (argW m c) (argB m c) i l))) (t.val - 1) t.val hp ht).symm
  unfold Zr
  rw [← eZ, eY]
  exact h2

/-- The summaries' block an odd point leaves, at a block index, is the array's entry there. -/
theorem summ_point (t : Fin cfg0.N) (ht : t.val % 2 = 1) (y : S1x1x1024.Idx) (j : S32x1x1024.Idx)
    (h0 : (j 0 : ℕ) = t.val / 2) (h2 : (j 2 : ℕ) = (y 2 : ℕ)) :
    (outsAt0 m c t.val t.isLt).2.1 y
      = ((Yr (argX m c) (argW m c) (argB m c) (j 0) (j 2) / Zr (argX m c) (argW m c) (argB m c) (j 0) : ℝ) : EReal) := by
  idx_vars y
  obtain rfl : y0 = 0 := Subsingleton.elim _ _
  obtain rfl : y1 = 0 := Subsingleton.elim _ _
  rw [show j 2 = y2 from Fin.ext h2]
  exact (summ_odd m c t ht y2).trans
    (quot_holds _ _ _ (scratch_total m c hx hw hb t ht (j 0) h0) (Zr_ne_zero _ _ _ _) y2)

/-- The summaries' array the kernel leaves, at an index. -/
theorem final_summ : (dats m 0 c).arrAt 4 (cfgs 0).N
    = fun j : S32x1x1024.Idx => ((Yr (argX m c) (argW m c) (argB m c) (j 0) (j 2) / Zr (argX m c) (argW m c) (argB m c) (j 0) : ℝ) : EReal) := by
  refine (dats m 0 c).arrAt_eq_of_covers 4 _ (by decide +kernel) fun t hf y => ?_
  blk_simp
  rw [after0_4]
  refine summ_point m c hx hw hb t ((flush0_4 t).mp hf) y _ ?_ ?_
  all_goals (blk_simp [idx t] <;> try omega)

end Device

end Cert.KernelIdeal.Value

end
-- ==== Proof.Results.lean ====
/- What the kernel's two results hold after its run: the two arrays the pipelined region leaves, reshaped. -/
module

public import proofs.«01_k».proof.Proof.Summary

@[expose] public section

set_option maxRecDepth 16384

noncomputable section

namespace Cert.KernelIdeal.Value

open Idealize.ShloMosaic Idealize.ShloMosaic.TcCoe Idealize.SL.Sem
open Cert.KernelIdeal Cert.KernelIdeal.Gen Cert.Softmax
open Idealize.ShloMosaic.Pipeline (Dat)

variable (m : (ℓ : Loc nD τ sig) → Buf (Elt Ideal) ℓ) (ρ : Dev nD → PrngReg)

/-- The first result is the array of summaries, its unit axis dropped. -/
theorem tail_summ (c : Dev nD) : Pipeline.afterTail₀ cfgs (dats m) 0 (V0 m) [hostOps1] c main_v2
    = shapeCast S32x1024 ((dats m 0 c).arrAt 4 (cfgs 0).N) shapeCasts_S32x1x1024_S32x1024 := by
  unfold Pipeline.afterTail₀
  simp only [List.flatten_cons, List.flatten_nil, List.append_nil]
  after_results
  exact congrArg (fun v => shapeCast S32x1024 v shapeCasts_S32x1x1024_S32x1024)
    (Pipeline.withArrays_arr (cfgs 0).spec launch0.win.arr_inj c _ _ 4)

/-- The second result is the array of norms, its rows laid out in order. -/
theorem tail_norms (c : Dev nD) : Pipeline.afterTail₀ cfgs (dats m) 0 (V0 m) [hostOps1] c main_v3
    = shapeCast S32x2048 ((dats m 0 c).arrAt 3 (cfgs 0).N) shapeCasts_S64x4x256x1_S32x2048 := by
  unfold Pipeline.afterTail₀
  simp only [List.flatten_cons, List.flatten_nil, List.append_nil]
  after_results
  exact congrArg (fun v => shapeCast S32x2048 v shapeCasts_S64x4x256x1_S32x2048)
    (Pipeline.withArrays_arr (cfgs 0).spec launch0.win.arr_inj c _ _ 3)

/-- The norms laid out in order: batch element by row. -/
theorem norms_cast (x : FVec Ideal S32x2048x3072 .f32) (w : FVec Ideal S1024x3072 .f32) (b : FVec Ideal S1024 .f32)
    (j : S32x2048.Idx) : shapeCast S32x2048 (norms x w b) shapeCasts_S64x4x256x1_S32x2048 j = N x w b (j 0) (j 1) := by
  idx_vars j
  pointwise [norms]
  exact congrArg₂ (N x w b) (Fin.ext (by dsimp only; omega)) (Fin.ext (by dsimp only; omega))

/-- The summaries without the unit axis. -/
theorem summ_cast (f : Fin 32 → Fin 1024 → EReal) (j : S32x1024.Idx) :
    shapeCast (α := EReal) S32x1024 (fun j : S32x1x1024.Idx => f (j 0) (j 2)) shapeCasts_S32x1x1024_S32x1024 j = f (j 0) (j 1) := by
  idx_vars j
  pointwise

/-- The first result's closed form: each batch element's transformed rows weighted by `exp (norm)`, over the sum of
    `exp (norm)`. -/
def summary (x : FVec Ideal S32x2048x3072 .f32) (w : FVec Ideal S1024x3072 .f32) (b : FVec Ideal S1024 .f32) :
    FVec Ideal S32x1024 .f32 := fun j => ((Yr x w b (j 0) (j 1) / Zr x w b (j 0) : ℝ) : EReal)

/-- The second result's closed form: the norm of each transformed row. -/
def rowNorms (x : FVec Ideal S32x2048x3072 .f32) (w : FVec Ideal S1024x3072 .f32) (b : FVec Ideal S1024 .f32) :
    FVec Ideal S32x2048 .f32 := fun j => N x w b (j 0) (j 1)

/-- The first result's buffer ends at its closed form, when the arguments are real. -/
theorem end_summ (c : Dev nD) (hx : Finite (argX m c)) (hw : Finite (argW m c)) (hb : Finite (argB m c)) :
    Pipeline.afterTail₀ cfgs (dats m) 0 (V0 m) [hostOps1] c main_v2 = summary (argX m c) (argW m c) (argB m c) := by
  rw [tail_summ, final_summ m c hx hw hb]
  exact funext fun j => summ_cast (fun i h => ((Yr _ _ _ i h / Zr _ _ _ i : ℝ) : EReal)) j

/-- The second result's buffer ends at its closed form. -/
theorem end_norms (c : Dev nD) :
    Pipeline.afterTail₀ cfgs (dats m) 0 (V0 m) [hostOps1] c main_v3 = rowNorms (argX m c) (argW m c) (argB m c) := by
  rw [tail_norms, final_norms]
  exact funext fun j => norms_cast _ _ _ j

/-- The kernel's run: its two results at their closed forms, the arguments unchanged. -/
theorem results (hf : ∀ c, Finite (argX m c) ∧ Finite (argW m c) ∧ Finite (argB m c)) :
    θ_run defs (onTc (τ := τ) (main (F := Ideal))) ⟨m, fun _ => 0, ρ⟩ fun r => ∀ c : Dev nD,
      r.2.mem ((c.tc : Thread nD τ).loc main_v2) = summary (argX m c) (argW m c) (argB m c)
      ∧ r.2.mem ((c.tc : Thread nD τ).loc main_v3) = rowNorms (argX m c) (argW m c) (argB m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h.1 c).2 main_v2 (Pipeline.mem_restRefs_of main_v2 (by decide) (by decide))).trans
        (end_summ m c (hf c).1 (hf c).2.1 (hf c).2.2),
      ((h.1 c).2 main_v3 (Pipeline.mem_restRefs_of main_v3 (by decide) (by decide))).trans (end_norms m c), h.2 c⟩)
    (θ_run_and (run_main m ρ) (unchanged m ρ))

end Cert.KernelIdeal.Value

end
-- ==== Proof.Reference.lean ====
/- What the reference's two results hold at an index. -/
module

public import proofs.«01_k».proof.Proof.Results
public import proofs.«01_k».proof.Proof.Gen.ReferenceIdeal.Run

@[expose] public section

set_option maxRecDepth 16384

noncomputable section

namespace Cert.ReferenceIdeal.Value

open Idealize.ShloMosaic Idealize.ShloMosaic.TcCoe Idealize.SL.Sem
open Cert.ReferenceIdeal Cert.ReferenceIdeal.Gen Cert.Softmax
open Cert.KernelIdeal.Value (N Tr Zr Yr Finite T_real N_real summary rowNorms)

/-- The reference's transformed rows. -/
def refT (x : FVec Ideal S32x2048x3072 .f32) (w : FVec Ideal S1024x3072 .f32) (b : FVec Ideal S1024 .f32) :
    FVec Ideal S32x2048x1024 .f32 :=
  addf (Host.dotGeneral dot_S32x2048x3072_S1024x3072_S32x2048x1024_2_1_01_0_n_n none x w)
    (broadcastInDim S32x2048x1024 ![0, 1, 2] bcast_S1x1x1024_S32x2048x1024_0_1_2
      (broadcastInDim S1x1x1024 ![2] bcast_S1024_S1x1x1024_2 b))

/-- The reference's norms of the rows `t`. -/
def refN (t : FVec Ideal S32x2048x1024 .f32) : FVec Ideal S32x2048 .f32 :=
  Host.sqrt (Host.reduceAdd (mulf t t) (constant S_ .f32 0x00000000#32) reducesTo_S32x2048x1024_S32x2048_d2 h_S_)

/-- The reference's exponentials of the norms `n`, each batch element's greatest norm subtracted. -/
def refE (n : FVec Ideal S32x2048 .f32) : FVec Ideal S32x2048 .f32 :=
  Host.exp (subf n (broadcastInDim S32x2048 ![0, 1] bcast_S32x1_S32x2048_0_1 (broadcastInDim S32x1 ![0] bcast_S32_S32x1_0
    (maximumf (broadcastInDim S32 ![] bcast_S_S32 (constant S_ .f32 0xFF800000#32))
      (Host.reduce FloatOps.maximumf n (constant S_ .f32 0xFF800000#32) reducesTo_S32x2048_S32_d1 h_S_)))))

/-- The reference's sum of the rows `t` weighted by the exponentials `e` over their sum. -/
def refS (t : FVec Ideal S32x2048x1024 .f32) (e : FVec Ideal S32x2048 .f32) : FVec Ideal S32x1024 .f32 :=
  Host.dotGeneral dot_S32x2048x1024_S32x2048_S32x1024_1_1_2_n_0_0 none t
    (Host.divf e (broadcastInDim S32x2048 ![0, 1] bcast_S32x1_S32x2048_0_1 (broadcastInDim S32x1 ![0] bcast_S32_S32x1_0
      (Host.reduceAdd e (constant S_ .f32 0x00000000#32) reducesTo_S32x2048_S32_d1 h_S_))))

/-- The transformed row at an index. -/
theorem refT_at (x : FVec Ideal S32x2048x3072 .f32) (w : FVec Ideal S1024x3072 .f32) (b : FVec Ideal S1024 .f32)
    (i : Fin 32) (l : Fin 2048) (h : Fin 1024) : refT x w b (ix3 i l h) = Cert.KernelIdeal.Value.T x w b i l h := by
  pointwise [refT, Cert.KernelIdeal.Value.T]

/-- The norm at an index. -/
theorem refN_at (x : FVec Ideal S32x2048x3072 .f32) (w : FVec Ideal S1024x3072 .f32) (b : FVec Ideal S1024 .f32)
    (i : Fin 32) (l : Fin 2048) : refN (refT x w b) (ix2 i l) = N x w b i l := by
  pointwise [refN, N, refT_at]

/-- The exponentials of real norms, a real (the greatest norm) subtracted. -/
theorem refE_at (n : FVec Ideal S32x2048 .f32) (ν : Fin 32 → Fin 2048 → ℝ) (hn : ∀ i l, n (ix2 i l) = (ν i l : EReal))
    (i : Fin 32) : ∃ M : ℝ, ∀ l, refE n (ix2 i l) = (Real.exp (ν i l - M) : EReal) := by
  obtain ⟨M, hM⟩ := fold_max_coe (ν i)
  refine ⟨M, fun l => ?_⟩
  pointwise [refE, hn, ofBits_negInf]
  rw [hM, max_eq_right bot_le, ← EReal.coe_sub, exp_coe]

/-- The weighted sum at an index, for real rows and exponentials of reals. -/
theorem refS_at (t : FVec Ideal S32x2048x1024 .f32) (e : FVec Ideal S32x2048 .f32) (i : Fin 32)
    (τ : Fin 2048 → Fin 1024 → ℝ) (ht : ∀ l h, t (ix3 i l h) = (τ l h : EReal))
    (ν : Fin 2048 → ℝ) (M : ℝ) (he : ∀ l, e (ix2 i l) = (Real.exp (ν l - M) : EReal)) (h : Fin 1024) :
    refS t e (ix2 i h) = (((∑ l, τ l h * Real.exp (ν l)) / ∑ l, Real.exp (ν l) : ℝ) : EReal) := by
  have hZ : ∑ l, Real.exp (ν l) ≠ 0 := ne_of_gt (Finset.sum_pos (fun l _ => Real.exp_pos _) ⟨0, Finset.mem_univ _⟩)
  have hM : Real.exp M ≠ 0 := ne_of_gt (Real.exp_pos M)
  have hE (l : Fin 2048) : Real.exp (ν l - M) = Real.exp (ν l) / Real.exp M := Real.exp_sub _ _
  have hS : ∑ l, Real.exp (ν l - M) = (∑ l, Real.exp (ν l)) / Real.exp M := by
    rw [Finset.sum_div]
    exact Finset.sum_congr rfl fun l _ => hE l
  pointwise [refS, ht, he]
  rw [sum_coe, Finset.sum_congr rfl fun l _ => by
    rw [div_coe_real _ _ (by rw [hS]; exact div_ne_zero hZ hM), ← EReal.coe_mul], sum_coe, Finset.sum_div]
  refine congrArg _ (Finset.sum_congr rfl fun l _ => ?_)
  rw [hS, hE]
  field_simp

/-- The reference's norms are the closed form. -/
theorem norms_eq (x : FVec Ideal S32x2048x3072 .f32) (w : FVec Ideal S1024x3072 .f32) (b : FVec Ideal S1024 .f32) :
    refN (refT x w b) = rowNorms x w b := by
  funext j
  idx_vars j
  exact refN_at x w b j0 j1

/-- The reference's summaries are the closed form, when the arguments are real. -/
theorem summ_eq (x : FVec Ideal S32x2048x3072 .f32) (w : FVec Ideal S1024x3072 .f32) (b : FVec Ideal S1024 .f32)
    (hx : Finite (s := S32x2048x3072) x) (hw : Finite (s := S1024x3072) w) (hb : Finite (s := S1024) b) :
    refS (refT x w b) (refE (refN (refT x w b))) = summary x w b := by
  funext j
  idx_vars j
  obtain ⟨M, hM⟩ := refE_at (refN (refT x w b)) (fun i l => Cert.KernelIdeal.Value.norm (Tr x w b i l))
    (fun i l => (refN_at x w b i l).trans (N_real x w b hx hw hb i l)) j0
  exact refS_at _ _ j0 (Tr x w b j0) (fun l h => (refT_at x w b j0 l h).trans (T_real x w b hx hw hb j0 l h))
    (fun l => Cert.KernelIdeal.Value.norm (Tr x w b j0 l)) M hM j1

/-- The reference's first result is the weighted sum of the arguments. -/
theorem res_eq (m : (ℓ : Loc nD τ sig) → Buf (Elt Ideal) ℓ) (c : Dev nD) :
    res_main_v16 m c = refS (refT (m ((c.tc : Thread nD τ).loc main_arg0)) (m ((c.tc : Thread nD τ).loc main_arg2))
        (m ((c.tc : Thread nD τ).loc main_arg3)))
      (refE (refN (refT (m ((c.tc : Thread nD τ).loc main_arg0)) (m ((c.tc : Thread nD τ).loc main_arg2))
        (m ((c.tc : Thread nD τ).loc main_arg3))))) := by
  unfold res_main_v16 refS refE refN refT
  rfl

/-- The reference's run: its two results at their closed forms, the arguments unchanged. -/
theorem results (m : (ℓ : Loc nD τ sig) → Buf (Elt Ideal) ℓ) (ρ : Dev nD → PrngReg)
    (X : Dev nD → FVec Ideal S32x2048x3072 .f32) (W : Dev nD → FVec Ideal S1024x3072 .f32) (B : Dev nD → FVec Ideal S1024 .f32)
    (eX : ∀ c : Dev nD, m ((c.tc : Thread nD τ).loc main_arg0) = X c)
    (eW : ∀ c : Dev nD, m ((c.tc : Thread nD τ).loc main_arg2) = W c)
    (eB : ∀ c : Dev nD, m ((c.tc : Thread nD τ).loc main_arg3) = B c)
    (hf : ∀ c, Finite (s := S32x2048x3072) (X c) ∧ Finite (s := S1024x3072) (W c) ∧ Finite (s := S1024) (B c)) :
    θ_run defs (onTc (τ := τ) (main (F := Ideal))) ⟨m, fun _ => 0, ρ⟩ fun r => ∀ c : Dev nD,
      r.2.mem ((c.tc : Thread nD τ).loc main_v16) = summary (X c) (W c) (B c)
      ∧ r.2.mem ((c.tc : Thread nD τ).loc main_v4) = rowNorms (X c) (W c) (B c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨(h c).1.trans ((res_eq m c).trans (by
        rw [eX, eW, eB]
        exact summ_eq (X c) (W c) (B c) (hf c).1 (hf c).2.1 (hf c).2.2)),
      (h c).2.1.trans ((norms_eq _ _ _).trans (by rw [eX, eW, eB])), (h c).2.2⟩)
    (run m ρ)

end Cert.ReferenceIdeal.Value

end
-- ==== Proof.Precondition.lean ====
/- What the precondition says: every entry of `trg`, `fc_w` and `fc_b` is a real. -/
module

public import proofs.«01_k».proof.Defs
public import proofs.«01_k».proof.Proof.Summary
public import Idealize.ShloMosaic.Lib.ReduceAll

@[expose] public section

set_option maxRecDepth 16384

noncomputable section

namespace Cert.Pre_finite_inputs

open Idealize.ShloMosaic Idealize.ShloMosaic.TcCoe
open Cert.Softmax
open Cert.KernelIdeal.Value (Finite)

/-- The shape relations the precondition's operations take. -/
theorem facts : Facts where
  bcast_S_S32x2048x3072 := by decide
  reducesTo_S32x2048x3072_S_d0_1_2 := by decide
  h_S_ := by decide
  bcast_S_S1024x3072 := by decide
  reducesTo_S1024x3072_S_d0_1 := by decide
  bcast_S_S1024 := by decide
  reducesTo_S1024_S_d0 := by decide

/-- An entry below infinity in absolute value is a real. -/
theorem real_of_lt {s : Shape} (x : FVec Ideal s .f32) (v : FVec Ideal s .f32) (hv : ∀ j, v j = (⊤ : EReal))
    (h : ∀ j, cmpf .olt (Host.absf x) v j = 1#1) : Finite x := by
  intro j
  have hj : Ideal.cmp .olt (max (x j : EReal) (-(x j))) (v j) = 1#1 := h j
  rw [hv j] at hj
  refine eq_coe_of_abs_lt ?_
  by_contra hn
  simp [Ideal.cmp, hn] at hj

/-- The scalar shape has one index. -/
instance : Subsingleton S_.Idx := ⟨fun a b => funext fun i => i.elim0⟩

/-- The splat of the pattern of infinity is infinity everywhere. -/
theorem splat_top (t : Shape) (hb : S_.BroadcastsInDim t (![] : Fin 0 → Fin t.rank)) (j : t.Idx) :
    broadcastInDim t ![] hb (constant (F := Ideal) S_ .f32 0x7F800000#32) j = (⊤ : EReal) := ofBits_posInf

/-- The precondition makes the three arrays real. -/
theorem finite_of_fn [hF : Facts] (x : FVec Ideal S32x2048x3072 .f32) (y : FVec Ideal S32x512x1024 .f32)
    (w : FVec Ideal S1024x3072 .f32) (b : FVec Ideal S1024 .f32) (h : fn (F := Ideal) x y w b = fun _ => 1#1) :
    Finite x ∧ Finite w ∧ Finite b := by
  have h0 := congrFun h (fun i => i.elim0)
  unfold fn at h0
  obtain ⟨h1, hb⟩ := IntOp.andi_eq_one.mp h0
  obtain ⟨hx, hw⟩ := IntOp.andi_eq_one.mp h1
  exact ⟨real_of_lt x _ (splat_top _ _) fun j => Host.reduce_andi_all _ _ _ _ _ hx j,
    real_of_lt w _ (splat_top _ _) fun j => Host.reduce_andi_all _ _ _ _ _ hw j,
    real_of_lt b _ (splat_top _ _) fun j => Host.reduce_andi_all _ _ _ _ _ hb j⟩

end Cert.Pre_finite_inputs

end
-- ==== Proof.Algebraic.lean ====
/- The kernel and the reference leave the same two results in the arithmetic of the extended reals, when `trg`, `fc_w`
   and `fc_b` are finite. -/
module

public import proofs.«01_k».proof.Proof.Results
public import proofs.«01_k».proof.Proof.Reference
public import proofs.«01_k».proof.Proof.Precondition

@[expose] public section

set_option maxRecDepth 16384

noncomputable section

namespace Cert.Proof

open Idealize.ShloMosaic Idealize.ShloMosaic.TcCoe Idealize.SL.Sem
open Cert.KernelIdeal.Value (argX argW argB summary rowNorms)

/-- The value claim, for both results: each program ends with the two closed forms. -/
theorem algebraic : Cert.algebraic_KernelIdeal_ReferenceIdeal_pre_finite_inputs
    (hPre_finite_inputs := Cert.Pre_finite_inputs.facts) := by
  intro m g m' g' hpre hagree
  have hf (c : Dev Cert.KernelIdeal.nD) := Cert.Pre_finite_inputs.finite_of_fn
    (hF := Cert.Pre_finite_inputs.facts) _ _ _ _ (hpre c)
  exact ⟨fun c => summary (argX m c) (argW m c) (argB m c), fun c => rowNorms (argX m c) (argW m c) (argB m c),
    Cert.KernelIdeal.Value.results m g hf,
    Cert.ReferenceIdeal.Value.results m' g' (argX m) (argW m) (argB m) (fun c => (hagree c).1)
      (fun c => (hagree c).2.2.1) (fun c => (hagree c).2.2.2) hf⟩

end Cert.Proof

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal.Run
public import proofs.«01_k».proof.Proof.Gen.ReferenceIdeal
public import proofs.«01_k».proof.Proof.Algebraic
public import Idealize.ShloMosaic.Adequacy
public import Idealize.ShloMosaic.Init

@[expose] public section

set_option maxRecDepth 16384

noncomputable section

namespace Cert.Proof

open Idealize.ShloMosaic Idealize.SL.Sem Cert.Kernel

/-- The reference runs to its end, its arguments unchanged and its counters at zero: it declares none. -/
theorem reference_frame : Cert.quiescent_ReferenceIdeal := by
  intro m g _
  exact (θ_run Cert.ReferenceIdeal.defs _ _).mono
    (fun r h => ⟨fun c => (h c).2.2, sem_eq_zero_of_no_sems (by decide) r.2⟩)
    (Cert.ReferenceIdeal.Value.run (F := Ideal) m g)

/-- The whole claim. -/
theorem claim : Cert.Claim :=
  ⟨Cert.Kernel.Gen.facts, Cert.KernelIdeal.Gen.facts, Cert.ReferenceIdeal.Gen.facts, Cert.Pre_finite_inputs.facts,
    fun m g _ => Cert.Kernel.Gen.frame m g, fun m g _ => Cert.KernelIdeal.Gen.frame m g,
    fun m g _ => Cert.KernelIdeal.Gen.frame m g, reference_frame, fun m g _ => reference_frame m g trivial, trivial,
    algebraic⟩

end Cert.Proof

end
